-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases_finite_events [hPre_zero_biases_finite_events : Cert.Pre_zero_biases_finite_events.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases_finite_events.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases_finite_events [hPre_zero_biases_finite_events : Cert.Pre_zero_biases_finite_events.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases_finite_events.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_zero_biases_finite_events [hKernelIdeal : Cert.KernelIdeal.Facts] [hPre_zero_biases_finite_events : Cert.Pre_zero_biases_finite_events.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases_finite_events m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_zero_biases_finite_events [hReferenceIdeal : Cert.ReferenceIdeal.Facts] [hPre_zero_biases_finite_events : Cert.Pre_zero_biases_finite_events.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases_finite_events m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_zero_biases_finite_events [hKernelIdeal : Cert.KernelIdeal.Facts] [hReferenceIdeal : Cert.ReferenceIdeal.Facts] [hPre_zero_biases_finite_events : Cert.Pre_zero_biases_finite_events.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases_finite_events m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_zero_biases_finite_events : Cert.Pre_zero_biases_finite_events.Facts),
    quiescent_Kernel (hKernel := hKernel)
    ∧ quiescent_KernelIdeal (hKernelIdeal := hKernelIdeal)
    ∧ quiescent_KernelIdeal_pre_zero_biases_finite_events (hKernelIdeal := hKernelIdeal) (hPre_zero_biases_finite_events := hPre_zero_biases_finite_events)
    ∧ quiescent_ReferenceIdeal (hReferenceIdeal := hReferenceIdeal)
    ∧ quiescent_ReferenceIdeal_pre_zero_biases_finite_events (hReferenceIdeal := hReferenceIdeal) (hPre_zero_biases_finite_events := hPre_zero_biases_finite_events)
    ∧ preserves_Kernel_KernelIdeal
    ∧ algebraic_KernelIdeal_ReferenceIdeal_pre_zero_biases_finite_events (hKernelIdeal := hKernelIdeal) (hReferenceIdeal := hReferenceIdeal) (hPre_zero_biases_finite_events := hPre_zero_biases_finite_events)
-- ==== Pre_zero_biases_finite_events.lean ====
abbrev S16x4096 : Shape := ⟨2, ![16, 4096]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1 : Shape := ⟨2, ![1, 1]⟩
abbrev S1x8 : Shape := ⟨2, ![1, 8]⟩
abbrev S8 : Shape := ⟨1, ![8]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel
  bcast_S_S1 : S_.BroadcastsInDim S1 (![] : Fin 0 → Fin S1.rank)
  reducesTo_S1_S_d0 : S1.ReducesTo [0] S_
  bcast_S_S8 : S_.BroadcastsInDim S8 (![] : Fin 0 → Fin S8.rank)
  reducesTo_S8_S_d0 : S8.ReducesTo [0] S_
  bcast_S_S16x4096 : S_.BroadcastsInDim S16x4096 (![] : Fin 0 → Fin S16x4096.rank)
  reducesTo_S16x4096_S_d0_1 : S16x4096.ReducesTo [0, 1] S_
  bcast_S_S1x32 : S_.BroadcastsInDim S1x32 (![] : Fin 0 → Fin S1x32.rank)
  reducesTo_S1x32_S_d0_1 : S1x32.ReducesTo [0, 1] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1x1 : S_.BroadcastsInDim S1x1 (![] : Fin 0 → Fin S1x1.rank)
  reducesTo_S1x1_S_d0_1 : S1x1.ReducesTo [0, 1] S_

variable [Facts]

def fn_part4 {F : FTy → Type} [FloatOps F] (main_arg9 : FVec F S1x1 .f32) (main_v39 : IVec S_ 1) (main_v59 : IVec S_ 1) (main_v63 : IVec S_ 1) : IVec S_ 1 :=
  let main_v64 : IVec S_ 1 := andi main_v59 main_v63
  let main_v65 : FVec F S1x1 .f32 := Host.absf main_arg9
  let main_cst_30 : FVec F S_ .f32 := constant S_ .f32 0x7F800000#32
  let main_v66 : FVec F S1x1 .f32 := broadcastInDim S1x1 ![] bcast_S_S1x1 main_cst_30
  let main_v67 : IVec S1x1 1 := cmpf .olt main_v65 main_v66
  let main_c_31 : IVec S_ 1 := constantI S_ 1 1#1
  let main_v68 : IVec S_ 1 := (fun x v => Host.reduce IntOp.andi x v reducesTo_S1x1_S_d0_1 h_S_) main_v67 main_c_31
  let main_v69 : IVec S_ 1 := andi main_v64 main_v68
  let main_v70 : IVec S_ 1 := andi main_v39 main_v69
  main_v70

def fn_part3 {F : FTy → Type} [FloatOps F] (main_arg3 : FVec F S32x32 .f32) (main_arg5 : FVec F S32x32 .f32) (main_arg7 : FVec F S32x1 .f32) (main_arg9 : FVec F S1x1 .f32) (main_v39 : IVec S_ 1) (main_v44 : IVec S_ 1) (main_v45 : FVec F S1x32 .f32) (main_v46 : FVec F S1x32 .f32) : IVec S_ 1 :=
  let main_v47 : IVec S1x32 1 := cmpf .olt main_v45 main_v46
  let main_c_23 : IVec S_ 1 := constantI S_ 1 1#1
  let main_v48 : IVec S_ 1 := (fun x v => Host.reduce IntOp.andi x v reducesTo_S1x32_S_d0_1 h_S_) main_v47 main_c_23
  let main_v49 : IVec S_ 1 := andi main_v44 main_v48
  let main_v50 : FVec F S32x32 .f32 := Host.absf main_arg3
  let main_cst_24 : FVec F S_ .f32 := constant S_ .f32 0x7F800000#32
  let main_v51 : FVec F S32x32 .f32 := broadcastInDim S32x32 ![] bcast_S_S32x32 main_cst_24
  let main_v52 : IVec S32x32 1 := cmpf .olt main_v50 main_v51
  let main_c_25 : IVec S_ 1 := constantI S_ 1 1#1
  let main_v53 : IVec S_ 1 := (fun x v => Host.reduce IntOp.andi x v reducesTo_S32x32_S_d0_1 h_S_) main_v52 main_c_25
  let main_v54 : IVec S_ 1 := andi main_v49 main_v53
  let main_v55 : FVec F S32x32 .f32 := Host.absf main_arg5
  let main_cst_26 : FVec F S_ .f32 := constant S_ .f32 0x7F800000#32
  let main_v56 : FVec F S32x32 .f32 := broadcastInDim S32x32 ![] bcast_S_S32x32 main_cst_26
  let main_v57 : IVec S32x32 1 := cmpf .olt main_v55 main_v56
  let main_c_27 : IVec S_ 1 := constantI S_ 1 1#1
  let main_v58 : IVec S_ 1 := (fun x v => Host.reduce IntOp.andi x v reducesTo_S32x32_S_d0_1 h_S_) main_v57 main_c_27
  let main_v59 : IVec S_ 1 := andi main_v54 main_v58
  let main_v60 : FVec F S32x1 .f32 := Host.absf main_arg7
  let main_cst_28 : FVec F S_ .f32 := constant S_ .f32 0x7F800000#32
  let main_v61 : FVec F S32x1 .f32 := broadcastInDim S32x1 ![] bcast_S_S32x1 main_cst_28
  let main_v62 : IVec S32x1 1 := cmpf .olt main_v60 main_v61
  let main_c_29 : IVec S_ 1 := constantI S_ 1 1#1
  let main_v63 : IVec S_ 1 := (fun x v => Host.reduce IntOp.andi x v reducesTo_S32x1_S_d0_1 h_S_) main_v62 main_c_29
  fn_part4 (F := F) main_arg9 main_v39 main_v59 main_v63

def fn_part2 {F : FTy → Type} [FloatOps F] (main_arg0 : FVec F S16x4096 .f32) (main_arg1 : FVec F S1x32 .f32) (main_arg3 : FVec F S32x32 .f32) (main_arg5 : FVec F S32x32 .f32) (main_arg7 : FVec F S32x1 .f32) (main_arg9 : FVec F S1x1 .f32) (main_arg18 : FVec F S1 .f32) (main_arg20 : FVec F S8 .f32) (main_v27 : IVec S_ 1) (main_v30 : IVec S_ 1) : IVec S_ 1 :=
  let main_v31 : IVec S_ 1 := andi main_v27 main_v30
  let main_cst_15 : FVec F S_ .f32 := constant S_ .f32 0x00000000#32
  let main_v32 : FVec F S1 .f32 := broadcastInDim S1 ![] bcast_S_S1 main_cst_15
  let main_v33 : IVec S1 1 := cmpf .oeq main_arg18 main_v32
  let main_c_16 : IVec S_ 1 := constantI S_ 1 1#1
  let main_v34 : IVec S_ 1 := (fun x v => Host.reduce IntOp.andi x v reducesTo_S1_S_d0 h_S_) main_v33 main_c_16
  let main_v35 : IVec S_ 1 := andi main_v31 main_v34
  let main_cst_17 : FVec F S_ .f32 := constant S_ .f32 0x00000000#32
  let main_v36 : FVec F S8 .f32 := broadcastInDim S8 ![] bcast_S_S8 main_cst_17
  let main_v37 : IVec S8 1 := cmpf .oeq main_arg20 main_v36
  let main_c_18 : IVec S_ 1 := constantI S_ 1 1#1
  let main_v38 : IVec S_ 1 := (fun x v => Host.reduce IntOp.andi x v reducesTo_S8_S_d0 h_S_) main_v37 main_c_18
  let main_v39 : IVec S_ 1 := andi main_v35 main_v38
  let main_v40 : FVec F S16x4096 .f32 := Host.absf main_arg0
  let main_cst_19 : FVec F S_ .f32 := constant S_ .f32 0x7F800000#32
  let main_v41 : FVec F S16x4096 .f32 := broadcastInDim S16x4096 ![] bcast_S_S16x4096 main_cst_19
  let main_v42 : IVec S16x4096 1 := cmpf .olt main_v40 main_v41
  let main_c_20 : IVec S_ 1 := constantI S_ 1 1#1
  let main_v43 : IVec S_ 1 := (fun x v => Host.reduce IntOp.andi x v reducesTo_S16x4096_S_d0_1 h_S_) main_v42 main_c_20
  let main_c_21 : IVec S_ 1 := constantI S_ 1 1#1
  let main_v44 : IVec S_ 1 := andi main_c_21 main_v43
  let main_v45 : FVec F S1x32 .f32 := Host.absf main_arg1
  let main_cst_22 : FVec F S_ .f32 := constant S_ .f32 0x7F800000#32
  let main_v46 : FVec F S1x32 .f32 := broadcastInDim S1x32 ![] bcast_S_S1x32 main_cst_22
  fn_part3 (F := F) main_arg3 main_arg5 main_arg7 main_arg9 main_v39 main_v44 main_v45 main_v46

def fn_part1 {F : FTy → Type} [FloatOps F] (main_arg0 : FVec F S16x4096 .f32) (main_arg1 : FVec F S1x32 .f32) (main_arg3 : FVec F S32x32 .f32) (main_arg5 : FVec F S32x32 .f32) (main_arg7 : FVec F S32x1 .f32) (main_arg9 : FVec F S1x1 .f32) (main_arg10 : FVec F S1 .f32) (main_arg12 : FVec F S32 .f32) (main_arg14 : FVec F S32 .f32) (main_arg16 : FVec F S32 .f32) (main_arg18 : FVec F S1 .f32) (main_arg20 : FVec F S8 .f32) (main_v11 : IVec S_ 1) (main_v14 : IVec S_ 1) : IVec S_ 1 :=
  let main_v15 : IVec S_ 1 := andi main_v11 main_v14
  let main_cst_7 : FVec F S_ .f32 := constant S_ .f32 0x00000000#32
  let main_v16 : FVec F S1 .f32 := broadcastInDim S1 ![] bcast_S_S1 main_cst_7
  let main_v17 : IVec S1 1 := cmpf .oeq main_arg10 main_v16
  let main_c_8 : IVec S_ 1 := constantI S_ 1 1#1
  let main_v18 : IVec S_ 1 := (fun x v => Host.reduce IntOp.andi x v reducesTo_S1_S_d0 h_S_) main_v17 main_c_8
  let main_v19 : IVec S_ 1 := andi main_v15 main_v18
  let main_cst_9 : FVec F S_ .f32 := constant S_ .f32 0x00000000#32
  let main_v20 : FVec F S32 .f32 := broadcastInDim S32 ![] bcast_S_S32 main_cst_9
  let main_v21 : IVec S32 1 := cmpf .oeq main_arg12 main_v20
  let main_c_10 : IVec S_ 1 := constantI S_ 1 1#1
  let main_v22 : IVec S_ 1 := (fun x v => Host.reduce IntOp.andi x v reducesTo_S32_S_d0 h_S_) main_v21 main_c_10
  let main_v23 : IVec S_ 1 := andi main_v19 main_v22
  let main_cst_11 : FVec F S_ .f32 := constant S_ .f32 0x00000000#32
  let main_v24 : FVec F S32 .f32 := broadcastInDim S32 ![] bcast_S_S32 main_cst_11
  let main_v25 : IVec S32 1 := cmpf .oeq main_arg14 main_v24
  let main_c_12 : IVec S_ 1 := constantI S_ 1 1#1
  let main_v26 : IVec S_ 1 := (fun x v => Host.reduce IntOp.andi x v reducesTo_S32_S_d0 h_S_) main_v25 main_c_12
  let main_v27 : IVec S_ 1 := andi main_v23 main_v26
  let main_cst_13 : FVec F S_ .f32 := constant S_ .f32 0x00000000#32
  let main_v28 : FVec F S32 .f32 := broadcastInDim S32 ![] bcast_S_S32 main_cst_13
  let main_v29 : IVec S32 1 := cmpf .oeq main_arg16 main_v28
  let main_c_14 : IVec S_ 1 := constantI S_ 1 1#1
  let main_v30 : IVec S_ 1 := (fun x v => Host.reduce IntOp.andi x v reducesTo_S32_S_d0 h_S_) main_v29 main_c_14
  fn_part2 (F := F) main_arg0 main_arg1 main_arg3 main_arg5 main_arg7 main_arg9 main_arg18 main_arg20 main_v27 main_v30

def fn {F : FTy → Type} [FloatOps F] (main_arg0 : FVec F S16x4096 .f32) (main_arg1 : FVec F S1x32 .f32) (main_arg2 : FVec F S32 .f32) (main_arg3 : FVec F S32x32 .f32) (main_arg4 : FVec F S32 .f32) (main_arg5 : FVec F S32x32 .f32) (main_arg6 : FVec F S32 .f32) (main_arg7 : FVec F S32x1 .f32) (main_arg8 : FVec F S1 .f32) (main_arg9 : FVec F S1x1 .f32) (main_arg10 : FVec F S1 .f32) (main_arg11 : FVec F S1x32 .f32) (main_arg12 : FVec F S32 .f32) (main_arg13 : FVec F S32x32 .f32) (main_arg14 : FVec F S32 .f32) (main_arg15 : FVec F S32x32 .f32) (main_arg16 : FVec F S32 .f32) (main_arg17 : FVec F S32x1 .f32) (main_arg18 : FVec F S1 .f32) (main_arg19 : FVec F S1x8 .f32) (main_arg20 : FVec F S8 .f32) : IVec S_ 1 :=
  let main_cst : FVec F S_ .f32 := constant S_ .f32 0x00000000#32
  let main_v0 : FVec F S32 .f32 := broadcastInDim S32 ![] bcast_S_S32 main_cst
  let main_v1 : IVec S32 1 := cmpf .oeq main_arg2 main_v0
  let main_c : IVec S_ 1 := constantI S_ 1 1#1
  let main_v2 : IVec S_ 1 := (fun x v => Host.reduce IntOp.andi x v reducesTo_S32_S_d0 h_S_) main_v1 main_c
  let main_c_0 : IVec S_ 1 := constantI S_ 1 1#1
  let main_v3 : IVec S_ 1 := andi main_c_0 main_v2
  let main_cst_1 : FVec F S_ .f32 := constant S_ .f32 0x00000000#32
  let main_v4 : FVec F S32 .f32 := broadcastInDim S32 ![] bcast_S_S32 main_cst_1
  let main_v5 : IVec S32 1 := cmpf .oeq main_arg4 main_v4
  let main_c_2 : IVec S_ 1 := constantI S_ 1 1#1
  let main_v6 : IVec S_ 1 := (fun x v => Host.reduce IntOp.andi x v reducesTo_S32_S_d0 h_S_) main_v5 main_c_2
  let main_v7 : IVec S_ 1 := andi main_v3 main_v6
  let main_cst_3 : FVec F S_ .f32 := constant S_ .f32 0x00000000#32
  let main_v8 : FVec F S32 .f32 := broadcastInDim S32 ![] bcast_S_S32 main_cst_3
  let main_v9 : IVec S32 1 := cmpf .oeq main_arg6 main_v8
  let main_c_4 : IVec S_ 1 := constantI S_ 1 1#1
  let main_v10 : IVec S_ 1 := (fun x v => Host.reduce IntOp.andi x v reducesTo_S32_S_d0 h_S_) main_v9 main_c_4
  let main_v11 : IVec S_ 1 := andi main_v7 main_v10
  let main_cst_5 : FVec F S_ .f32 := constant S_ .f32 0x00000000#32
  let main_v12 : FVec F S1 .f32 := broadcastInDim S1 ![] bcast_S_S1 main_cst_5
  let main_v13 : IVec S1 1 := cmpf .oeq main_arg8 main_v12
  let main_c_6 : IVec S_ 1 := constantI S_ 1 1#1
  let main_v14 : IVec S_ 1 := (fun x v => Host.reduce IntOp.andi x v reducesTo_S1_S_d0 h_S_) main_v13 main_c_6
  fn_part1 (F := F) main_arg0 main_arg1 main_arg3 main_arg5 main_arg7 main_arg9 main_arg10 main_arg12 main_arg14 main_arg16 main_arg18 main_arg20 main_v11 main_v14
-- ==== Kernel.lean ====
abbrev S16x4096 : Shape := ⟨2, ![16, 4096]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1 : Shape := ⟨2, ![1, 1]⟩
abbrev S1x8 : Shape := ⟨2, ![1, 8]⟩
abbrev S8 : Shape := ⟨1, ![8]⟩
abbrev S16 : Shape := ⟨1, ![16]⟩
abbrev S16x1 : Shape := ⟨2, ![16, 1]⟩
abbrev S16x32 : Shape := ⟨2, ![16, 32]⟩
abbrev S1x1x8 : Shape := ⟨3, ![1, 1, 8]⟩

abbrev nBuf : Space → Nat
  | .hbm => 23
  | .vmem => 12
  | .smem => 0
  | _ => 0

abbrev bufTy : (tb : Table) → Fin (tcTables nBuf tb) → BufTy
  | .hbm, ⟨0, _⟩ => ⟨S16x4096, .f32⟩
  | .hbm, ⟨1, _⟩ => ⟨S1x32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S1x1, .f32⟩
  | .hbm, ⟨10, _⟩ => ⟨S1, .f32⟩
  | .hbm, ⟨11, _⟩ => ⟨S1x32, .f32⟩
  | .hbm, ⟨12, _⟩ => ⟨S32, .f32⟩
  | .hbm, ⟨13, _⟩ => ⟨S32x32, .f32⟩
  | .hbm, ⟨14, _⟩ => ⟨S32, .f32⟩
  | .hbm, ⟨15, _⟩ => ⟨S32x32, .f32⟩
  | .hbm, ⟨16, _⟩ => ⟨S32, .f32⟩
  | .hbm, ⟨17, _⟩ => ⟨S32x1, .f32⟩
  | .hbm, ⟨18, _⟩ => ⟨S1, .f32⟩
  | .hbm, ⟨19, _⟩ => ⟨S1x8, .f32⟩
  | .hbm, ⟨20, _⟩ => ⟨S8, .f32⟩
  | .hbm, ⟨21, _⟩ => ⟨S1x8, .f32⟩
  | .hbm, ⟨22, _⟩ => ⟨S1x1x8, .f32⟩
  | .local _ .vmem, ⟨0, _⟩ => ⟨S16x4096, .f32⟩
  | .local _ .vmem, ⟨1, _⟩ => ⟨S1x32, .f32⟩
  | .local _ .vmem, ⟨2, _⟩ => ⟨S32x32, .f32⟩
  | .local _ .vmem, ⟨3, _⟩ => ⟨S32x32, .f32⟩
  | .local _ .vmem, ⟨4, _⟩ => ⟨S32x1, .f32⟩
  | .local _ .vmem, ⟨5, _⟩ => ⟨S1x1, .f32⟩
  | .local _ .vmem, ⟨6, _⟩ => ⟨S1x32, .f32⟩
  | .local _ .vmem, ⟨7, _⟩ => ⟨S32x32, .f32⟩
  | .local _ .vmem, ⟨8, _⟩ => ⟨S32x32, .f32⟩
  | .local _ .vmem, ⟨9, _⟩ => ⟨S32x1, .f32⟩
  | .local _ .vmem, ⟨10, _⟩ => ⟨S1x8, .f32⟩
  | .local _ .vmem, ⟨11, _⟩ => ⟨S1x8, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== ReferenceIdeal.lean ====
abbrev S16x4096 : Shape := ⟨2, ![16, 4096]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1 : Shape := ⟨2, ![1, 1]⟩
abbrev S1x8 : Shape := ⟨2, ![1, 8]⟩
abbrev S8 : Shape := ⟨1, ![8]⟩
abbrev S16x4096x1 : Shape := ⟨3, ![16, 4096, 1]⟩
abbrev S16x4096x32 : Shape := ⟨3, ![16, 4096, 32]⟩
abbrev S1x1x32 : Shape := ⟨3, ![1, 1, 32]⟩
abbrev S_ : Shape := ⟨0, ![]⟩
abbrev S16x32 : Shape := ⟨2, ![16, 32]⟩
abbrev S16x1 : Shape := ⟨2, ![16, 1]⟩
abbrev S1x1x8 : Shape := ⟨3, ![1, 1, 8]⟩

abbrev nBuf : Space → Nat
  | .hbm => 92
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S1x32, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S1x1, .f32⟩
  | .hbm, ⟨10, _⟩ => ⟨S1, .f32⟩
  | .hbm, ⟨11, _⟩ => ⟨S1x32, .f32⟩
  | .hbm, ⟨12, _⟩ => ⟨S32, .f32⟩
  | .hbm, ⟨13, _⟩ => ⟨S32x32, .f32⟩
  | .hbm, ⟨14, _⟩ => ⟨S32, .f32⟩
  | .hbm, ⟨15, _⟩ => ⟨S32x32, .f32⟩
  | .hbm, ⟨16, _⟩ => ⟨S32, .f32⟩
  | .hbm, ⟨17, _⟩ => ⟨S32x1, .f32⟩
  | .hbm, ⟨18, _⟩ => ⟨S1, .f32⟩
  | .hbm, ⟨19, _⟩ => ⟨S1x8, .f32⟩
  | .hbm, ⟨20, _⟩ => ⟨S8, .f32⟩
  | .hbm, ⟨21, _⟩ => ⟨S16x4096x1, .f32⟩
  | .hbm, ⟨22, _⟩ => ⟨S16x4096x32, .f32⟩
  | .hbm, ⟨23, _⟩ => ⟨S1x1x32, .f32⟩
  | .hbm, ⟨24, _⟩ => ⟨S16x4096x32, .f32⟩
  | .hbm, ⟨25, _⟩ => ⟨S16x4096x32, .f32⟩
  | .hbm, ⟨26, _⟩ => ⟨S_, .f32⟩
  | .hbm, ⟨27, _⟩ => ⟨S16x4096x32, .f32⟩
  | .hbm, ⟨28, _⟩ => ⟨S16x4096x32, .f32⟩
  | .hbm, ⟨29, _⟩ => ⟨S16x4096x32, .f32⟩
  | .hbm, ⟨30, _⟩ => ⟨S1x1x32, .f32⟩
  | .hbm, ⟨31, _⟩ => ⟨S16x4096x32, .f32⟩
  | .hbm, ⟨32, _⟩ => ⟨S16x4096x32, .f32⟩
  | .hbm, ⟨33, _⟩ => ⟨S_, .f32⟩
  | .hbm, ⟨34, _⟩ => ⟨S16x4096x32, .f32⟩
  | .hbm, ⟨35, _⟩ => ⟨S16x4096x32, .f32⟩
  | .hbm, ⟨36, _⟩ => ⟨S_, .f32⟩
  | .hbm, ⟨37, _⟩ => ⟨S16x32, .f32⟩
  | .hbm, ⟨38, _⟩ => ⟨S16x32, .f32⟩
  | .hbm, ⟨39, _⟩ => ⟨S1x32, .f32⟩
  | .hbm, ⟨40, _⟩ => ⟨S16x32, .f32⟩
  | .hbm, ⟨41, _⟩ => ⟨S16x32, .f32⟩
  | .hbm, ⟨42, _⟩ => ⟨S_, .f32⟩
  | .hbm, ⟨43, _⟩ => ⟨S16x32, .f32⟩
  | .hbm, ⟨44, _⟩ => ⟨S16x32, .f32⟩
  | .hbm, ⟨45, _⟩ => ⟨S16x1, .f32⟩
  | .hbm, ⟨46, _⟩ => ⟨S1x1, .f32⟩
  | .hbm, ⟨47, _⟩ => ⟨S16x1, .f32⟩
  | .hbm, ⟨48, _⟩ => ⟨S16x1, .f32⟩
  | .hbm, ⟨49, _⟩ => ⟨S_, .f32⟩
  | .hbm, ⟨50, _⟩ => ⟨S16x1, .f32⟩
  | .hbm, ⟨51, _⟩ => ⟨S16x1, .f32⟩
  | .hbm, ⟨52, _⟩ => ⟨S16x1, .f32⟩
  | .hbm, ⟨53, _⟩ => ⟨S1x1, .f32⟩
  | .hbm, ⟨54, _⟩ => ⟨S16x1, .f32⟩
  | .hbm, ⟨55, _⟩ => ⟨S16x1, .f32⟩
  | .hbm, ⟨56, _⟩ => ⟨S_, .f32⟩
  | .hbm, ⟨57, _⟩ => ⟨S16x1, .f32⟩
  | .hbm, ⟨58, _⟩ => ⟨S16x1, .f32⟩
  | .hbm, ⟨59, _⟩ => ⟨S16x32, .f32⟩
  | .hbm, ⟨60, _⟩ => ⟨S1x32, .f32⟩
  | .hbm, ⟨61, _⟩ => ⟨S16x32, .f32⟩
  | .hbm, ⟨62, _⟩ => ⟨S16x32, .f32⟩
  | .hbm, ⟨63, _⟩ => ⟨S_, .f32⟩
  | .hbm, ⟨64, _⟩ => ⟨S16x32, .f32⟩
  | .hbm, ⟨65, _⟩ => ⟨S16x32, .f32⟩
  | .hbm, ⟨66, _⟩ => ⟨S16x32, .f32⟩
  | .hbm, ⟨67, _⟩ => ⟨S1x32, .f32⟩
  | .hbm, ⟨68, _⟩ => ⟨S16x32, .f32⟩
  | .hbm, ⟨69, _⟩ => ⟨S16x32, .f32⟩
  | .hbm, ⟨70, _⟩ => ⟨S_, .f32⟩
  | .hbm, ⟨71, _⟩ => ⟨S16x32, .f32⟩
  | .hbm, ⟨72, _⟩ => ⟨S16x32, .f32⟩
  | .hbm, ⟨73, _⟩ => ⟨S_, .f32⟩
  | .hbm, ⟨74, _⟩ => ⟨S32, .f32⟩
  | .hbm, ⟨75, _⟩ => ⟨S1x32, .f32⟩
  | .hbm, ⟨76, _⟩ => ⟨S1x32, .f32⟩
  | .hbm, ⟨77, _⟩ => ⟨S1x32, .f32⟩
  | .hbm, ⟨78, _⟩ => ⟨S1x32, .f32⟩
  | .hbm, ⟨79, _⟩ => ⟨S_, .f32⟩
  | .hbm, ⟨80, _⟩ => ⟨S1x32, .f32⟩
  | .hbm, ⟨81, _⟩ => ⟨S1x32, .f32⟩
  | .hbm, ⟨82, _⟩ => ⟨S1x1, .f32⟩
  | .hbm, ⟨83, _⟩ => ⟨S1x1, .f32⟩
  | .hbm, ⟨84, _⟩ => ⟨S1x1, .f32⟩
  | .hbm, ⟨85, _⟩ => ⟨S_, .f32⟩
  | .hbm, ⟨86, _⟩ => ⟨S1x1, .f32⟩
  | .hbm, ⟨87, _⟩ => ⟨S1x1, .f32⟩
  | .hbm, ⟨88, _⟩ => ⟨S1x8, .f32⟩
  | .hbm, ⟨89, _⟩ => ⟨S1x8, .f32⟩
  | .hbm, ⟨90, _⟩ => ⟨S1x8, .f32⟩
  | .hbm, ⟨91, _⟩ => ⟨S1x1x8, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_call0_cst : Ref sig .tc := ⟨.hbm, 26, rfl⟩
abbrev main_call0_v0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_call1_cst : Ref sig .tc := ⟨.hbm, 33, rfl⟩
abbrev main_call1_v0 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_call2_cst : Ref sig .tc := ⟨.hbm, 42, rfl⟩
abbrev main_call2_v0 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_call3_cst : Ref sig .tc := ⟨.hbm, 49, rfl⟩
abbrev main_call3_v0 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_call4_cst : Ref sig .tc := ⟨.hbm, 56, rfl⟩
abbrev main_call4_v0 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_call5_cst : Ref sig .tc := ⟨.hbm, 63, rfl⟩
abbrev main_call5_v0 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_call6_cst : Ref sig .tc := ⟨.hbm, 70, rfl⟩
abbrev main_call6_v0 : Ref sig .tc := ⟨.hbm, 71, rfl⟩
abbrev main_v36 : Ref sig .tc := ⟨.hbm, 72, rfl⟩
abbrev main_cst_0 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_call7_cst : Ref sig .tc := ⟨.hbm, 79, rfl⟩
abbrev main_call7_v0 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_call8_cst : Ref sig .tc := ⟨.hbm, 85, rfl⟩
abbrev main_call8_v0 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩

abbrev nD : Nat := 1
abbrev τ : Topo := Topo.v7x

variable {F : FTy → Type} [FloatOps F]
-- ==== Proof.Positive.lean ====
/- Facts about a rectified linear layer over the extended reals, used on both programs: what it does to a vector scaled
   by a nonnegative real (it scales the same way), and what two layers in a row do to a single real number (a positive
   number scales one fixed vector, a negative number scales another). Nothing here mentions a program. -/
module

public import Mathlib.Data.EReal.Inv
public import Mathlib.Algebra.BigOperators.Fin
public import Mathlib.Algebra.BigOperators.Ring.Finset
public import Mathlib.Algebra.Order.Ring.Defs

@[expose] public section

noncomputable section

namespace Cert.Positive

open Finset

/-- One rectified linear layer without bias: the vector `x` times the matrix `w`, negative entries replaced by zero. -/
def layer {n p : ℕ} (x : Fin n → EReal) (w : Fin n → Fin p → EReal) (k : Fin p) : EReal :=
  max (∑ j, x j * w j k) 0

/-- A nonnegative real factor distributes over a sum of extended reals. -/
theorem mul_sum_real {ι : Type} (s : Finset ι) (f : ι → EReal) {a : ℝ} (ha : 0 ≤ a) :
    (a : EReal) * ∑ i ∈ s, f i = ∑ i ∈ s, (a : EReal) * f i := by
  classical
  induction s using Finset.induction_on with
  | empty => simp
  | insert i s hi ih =>
    rw [sum_insert hi, sum_insert hi,
      EReal.left_distrib_of_nonneg_of_ne_top (EReal.coe_nonneg.mpr ha) (EReal.coe_ne_top a), ih]

/-- A sum of nonnegative reals times an extended real is the sum of the products. -/
theorem sum_real_mul {ι : Type} (s : Finset ι) (f : ι → ℝ) (hf : ∀ i, 0 ≤ f i) (q : EReal) :
    ∑ i ∈ s, (f i : EReal) * q = ((∑ i ∈ s, f i : ℝ) : EReal) * q := by
  classical
  induction s using Finset.induction_on with
  | empty => simp
  | insert i s hi ih =>
    rw [sum_insert hi, sum_insert hi, EReal.coe_add,
      EReal.right_distrib_of_nonneg (EReal.coe_nonneg.mpr (hf i)) (EReal.coe_nonneg.mpr (sum_nonneg fun i _ => hf i)), ih]

/-- A nonnegative real factor passes through the rectifier. -/
theorem mul_max_real (x : EReal) {a : ℝ} (ha : 0 ≤ a) : max ((a : EReal) * x) 0 = (a : EReal) * max x 0 := by
  rcases le_total x 0 with h | h
  · rw [max_eq_right h, mul_zero, max_eq_right]
    exact mul_nonpos_of_nonneg_of_nonpos (EReal.coe_nonneg.mpr ha) h
  · rw [max_eq_left h, max_eq_left]
    exact mul_nonneg (EReal.coe_nonneg.mpr ha) h

/-- A layer of a vector scaled by a nonnegative real is the layer of the vector, scaled. -/
theorem layer_smul {n p : ℕ} (x : Fin n → EReal) (w : Fin n → Fin p → EReal) {a : ℝ} (ha : 0 ≤ a) (k : Fin p) :
    layer (fun j => (a : EReal) * x j) w k = (a : EReal) * layer x w k := by
  unfold layer
  rw [← mul_max_real _ ha, mul_sum_real _ _ ha]
  simp only [mul_assoc]

/-- A sum of real numbers is the same number whether it is taken over the reals or over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [sum_insert hi, sum_insert hi, EReal.coe_add, ih]

/-- The larger of two reals is the same number over the extended reals. -/
theorem coe_max (x y : ℝ) : ((max x y : ℝ) : EReal) = max (x : EReal) (y : EReal) :=
  EReal.coe_strictMono.monotone.map_max

/-- The smaller of two reals is the same number over the extended reals. -/
theorem coe_min (x y : ℝ) : ((min x y : ℝ) : EReal) = min (x : EReal) (y : EReal) :=
  EReal.coe_strictMono.monotone.map_min

/-- A layer of real numbers is a real number, at least zero. -/
theorem layer_real {n p : ℕ} (x : Fin n → ℝ) (w : Fin n → Fin p → ℝ) (k : Fin p) :
    layer (fun j => (x j : EReal)) (fun j k => (w j k : EReal)) k = ((max (∑ j, x j * w j k) 0 : ℝ) : EReal) := by
  unfold layer
  simp only [← EReal.coe_mul, ← coe_sum]
  rw [coe_max, EReal.coe_zero]

/-- Over the reals: two layers without bias send `x` to `x` times one fixed number where `x` is positive and to `x` times
    another where it is negative. `max x 0` is the positive part and `x - max x 0` the negative part. -/
theorem two_layers_of_number {n : ℕ} (x : ℝ) (a w : Fin n → ℝ) :
    max (∑ j, max (x * a j) 0 * w j) 0
      = max x 0 * max (∑ j, max (a j) 0 * w j) 0 + (x - max x 0) * min (∑ j, min (a j) 0 * w j) 0 := by
  rcases le_total 0 x with h | h
  · rw [max_eq_left h, sub_self, zero_mul, add_zero, ← mul_zero x]
    have e : ∀ j, max (x * a j) (x * 0) = x * max (a j) 0 := fun j => (mul_max_of_nonneg _ _ h).symm
    simp only [e, mul_assoc, ← mul_sum]
    rw [mul_zero, mul_max_of_nonneg _ _ h, mul_zero]
  · rw [max_eq_right h, zero_mul, zero_add, sub_zero]
    have e : ∀ j, max (x * a j) 0 = x * min (a j) 0 := fun j => by
      rcases le_total (a j) 0 with g | g
      · rw [min_eq_left g, max_eq_left (mul_nonneg_of_nonpos_of_nonpos h g)]
      · rw [min_eq_right g, mul_zero, max_eq_right (mul_nonpos_of_nonpos_of_nonneg h g)]
    simp only [e, mul_assoc, ← mul_sum]
    rcases le_total (∑ j, min (a j) 0 * w j) 0 with g | g
    · rw [min_eq_left g, max_eq_left (mul_nonneg_of_nonpos_of_nonpos h g)]
    · rw [min_eq_right g, mul_zero, max_eq_right (mul_nonpos_of_nonpos_of_nonneg h g)]

/-- The same summed over many numbers `x l`: the sum of their images needs only the sum of the positive parts and the sum
    of all of them. -/
theorem sum_two_layers {n L : ℕ} (x : Fin L → ℝ) (a w : Fin n → ℝ) :
    ∑ l, max (∑ j, max (x l * a j) 0 * w j) 0
      = (∑ l, max (x l) 0) * max (∑ j, max (a j) 0 * w j) 0
        + (∑ l, x l - ∑ l, max (x l) 0) * min (∑ j, min (a j) 0 * w j) 0 := by
  simp only [two_layers_of_number, sum_add_distrib, ← sum_mul, sum_sub_distrib]

end Cert.Positive

end
-- ==== Proof.Precondition.lean ====
/- What the precondition says, read entry by entry: every bias entry is zero, and every entry of the events and of the
   weights `W_p1a`, `W_p1b`, `W_r1a`, `W_r1b`, `W_o1` is a real number. -/
module

public import proofs.«01_k».proof.Proof.Gen.Pre_zero_biases_finite_events
public import Idealize.ShloMosaic.Lib.Pointwise
public import Idealize.ShloMosaic.Lib.ReduceAll
public import Idealize.ShloMosaic.Lib.WordArith

@[expose] public section

set_option maxRecDepth 16384

noncomputable section

namespace Cert.Pre_zero_biases_finite_events.Hand

open Cert.Pre_zero_biases_finite_events Cert.Pre_zero_biases_finite_events.Gen Idealize.ShloMosaic

/-- The precondition's content, over the arrays in the order of the programs' arguments. -/
structure Meaning (a0 : FVec Ideal S16x4096 .f32) (a1 : FVec Ideal S1x32 .f32) (a2 : FVec Ideal S32 .f32) (a3 : FVec Ideal S32x32 .f32) (a4 : FVec Ideal S32 .f32)
    (a5 : FVec Ideal S32x32 .f32) (a6 : FVec Ideal S32 .f32) (a7 : FVec Ideal S32x1 .f32) (a8 : FVec Ideal S1 .f32) (a9 : FVec Ideal S1x1 .f32)
    (a10 : FVec Ideal S1 .f32) (a11 : FVec Ideal S1x32 .f32) (a12 : FVec Ideal S32 .f32) (a13 : FVec Ideal S32x32 .f32) (a14 : FVec Ideal S32 .f32)
    (a15 : FVec Ideal S32x32 .f32) (a16 : FVec Ideal S32 .f32) (a17 : FVec Ideal S32x1 .f32) (a18 : FVec Ideal S1 .f32) (a19 : FVec Ideal S1x8 .f32)
    (a20 : FVec Ideal S8 .f32) : Prop where
  zero2 : ∀ i, a2 i = 0
  zero4 : ∀ i, a4 i = 0
  zero6 : ∀ i, a6 i = 0
  zero8 : ∀ i, a8 i = 0
  zero10 : ∀ i, a10 i = 0
  zero12 : ∀ i, a12 i = 0
  zero14 : ∀ i, a14 i = 0
  zero16 : ∀ i, a16 i = 0
  zero18 : ∀ i, a18 i = 0
  zero20 : ∀ i, a20 i = 0
  real0 : ∀ i, ∃ r : ℝ, a0 i = r
  real1 : ∀ i, ∃ r : ℝ, a1 i = r
  real3 : ∀ i, ∃ r : ℝ, a3 i = r
  real5 : ∀ i, ∃ r : ℝ, a5 i = r
  real7 : ∀ i, ∃ r : ℝ, a7 i = r
  real9 : ∀ i, ∃ r : ℝ, a9 i = r

instance : Subsingleton S_.Idx := ⟨fun i j => funext fun a => a.elim0⟩

/-- "All entries equal zero", as the precondition spells it, says of each entry that it is zero. -/
theorem zero_of_all {s : Shape} {axes : List (Fin s.rank)} (b : FVec Ideal s .f32) (hb : S_.BroadcastsInDim s ![])
    (hr : s.ReducesTo axes S_) (hu : 0 < S_.numel) (j : S_.Idx)
    (e : Host.reduce IntOp.andi (cmpf .oeq b (broadcastInDim s ![] hb (constant S_ .f32 0x00000000#32)))
      (constantI S_ 1 1#1) hr hu j = 1#1) (i : s.Idx) : b i = 0 := by
  have h := Host.reduce_andi_all _ _ hr hu j e i
  pointwise at h
  simpa [WordArith.ofBool_eq_one_iff] using h

/-- "All absolute values are below infinity", as the precondition spells it, says of each entry that it is a real
    number. -/
theorem real_of_all {s : Shape} {axes : List (Fin s.rank)} (b : FVec Ideal s .f32) (hb : S_.BroadcastsInDim s ![])
    (hr : s.ReducesTo axes S_) (hu : 0 < S_.numel) (j : S_.Idx)
    (e : Host.reduce IntOp.andi (cmpf .olt (Host.absf b) (broadcastInDim s ![] hb (constant S_ .f32 0x7F800000#32)))
      (constantI S_ 1 1#1) hr hu j = 1#1) (i : s.Idx) : ∃ r : ℝ, b i = r := by
  have h := Host.reduce_andi_all _ _ hr hu j e i
  have top : Ideal.ofBits .f32 0x7F800000#32 = (⊤ : EReal) := by
    simp [Ideal.ofBits, Ideal.ieee]
  pointwise at h
  rw [top] at h
  have h' : max (b i) (-(b i)) < ⊤ := of_decide_eq_true ((WordArith.ofBool_eq_one_iff _).1 h)
  obtain ⟨h1, h2⟩ := max_lt_iff.1 h'
  refine ⟨(b i).toReal, (EReal.coe_toReal h1.ne fun hbot => ?_).symm⟩
  rw [hbot, EReal.neg_bot] at h2
  exact lt_irrefl _ h2

/-- A conjunction of two bits that is one has both its bits one. -/
theorem both_of_and {x y : IVec S_ 1} {j : S_.Idx} (h : andi x y j = 1#1) : x j = 1#1 ∧ y j = 1#1 :=
  IntOp.andi_eq_one.1 h

/-- The precondition gives its content: each clause is read off the conjunction that it computes. -/
theorem meaning (a0 : FVec Ideal S16x4096 .f32) (a1 : FVec Ideal S1x32 .f32) (a2 : FVec Ideal S32 .f32) (a3 : FVec Ideal S32x32 .f32) (a4 : FVec Ideal S32 .f32)
    (a5 : FVec Ideal S32x32 .f32) (a6 : FVec Ideal S32 .f32) (a7 : FVec Ideal S32x1 .f32) (a8 : FVec Ideal S1 .f32) (a9 : FVec Ideal S1x1 .f32)
    (a10 : FVec Ideal S1 .f32) (a11 : FVec Ideal S1x32 .f32) (a12 : FVec Ideal S32 .f32) (a13 : FVec Ideal S32x32 .f32) (a14 : FVec Ideal S32 .f32)
    (a15 : FVec Ideal S32x32 .f32) (a16 : FVec Ideal S32 .f32) (a17 : FVec Ideal S32x1 .f32) (a18 : FVec Ideal S1 .f32) (a19 : FVec Ideal S1x8 .f32)
    (a20 : FVec Ideal S8 .f32)
    (h : fn (F := Ideal) a0 a1 a2 a3 a4 a5 a6 a7 a8 a9 a10 a11 a12 a13 a14 a15 a16 a17 a18 a19 a20 = fun _ => 1#1) :
    Meaning a0 a1 a2 a3 a4 a5 a6 a7 a8 a9 a10 a11 a12 a13 a14 a15 a16 a17 a18 a19 a20 := by
  replace h := congrFun h (fun a => a.elim0)
  dsimp only [fn, fn_part1, fn_part2, fn_part3, fn_part4] at h
  obtain ⟨hz, hf⟩ := both_of_and h
  obtain ⟨hz, z20⟩ := both_of_and hz
  obtain ⟨hz, z18⟩ := both_of_and hz
  obtain ⟨hz, z16⟩ := both_of_and hz
  obtain ⟨hz, z14⟩ := both_of_and hz
  obtain ⟨hz, z12⟩ := both_of_and hz
  obtain ⟨hz, z10⟩ := both_of_and hz
  obtain ⟨hz, z8⟩ := both_of_and hz
  obtain ⟨hz, z6⟩ := both_of_and hz
  obtain ⟨hz, z4⟩ := both_of_and hz
  obtain ⟨hz, z2⟩ := both_of_and hz
  obtain ⟨hf, f9⟩ := both_of_and hf
  obtain ⟨hf, f7⟩ := both_of_and hf
  obtain ⟨hf, f5⟩ := both_of_and hf
  obtain ⟨hf, f3⟩ := both_of_and hf
  obtain ⟨hf, f1⟩ := both_of_and hf
  obtain ⟨hf, f0⟩ := both_of_and hf
  exact {
    zero2 := zero_of_all _ _ _ _ _ z2
    zero4 := zero_of_all _ _ _ _ _ z4
    zero6 := zero_of_all _ _ _ _ _ z6
    zero8 := zero_of_all _ _ _ _ _ z8
    zero10 := zero_of_all _ _ _ _ _ z10
    zero12 := zero_of_all _ _ _ _ _ z12
    zero14 := zero_of_all _ _ _ _ _ z14
    zero16 := zero_of_all _ _ _ _ _ z16
    zero18 := zero_of_all _ _ _ _ _ z18
    zero20 := zero_of_all _ _ _ _ _ z20
    real0 := real_of_all _ _ _ _ _ f0
    real1 := real_of_all _ _ _ _ _ f1
    real3 := real_of_all _ _ _ _ _ f3
    real5 := real_of_all _ _ _ _ _ f5
    real7 := real_of_all _ _ _ _ _ f7
    real9 := real_of_all _ _ _ _ _ f9 }

end Cert.Pre_zero_biases_finite_events.Hand

end
-- ==== Proof.KernelValue.lean ====
/- What the kernel's one store writes, read entry by entry at extended-real values, in terms of its loaded blocks. -/
module

public import proofs.«01_k».proof.Proof.Gen.KernelIdeal.Skeleton
public import proofs.«01_k».proof.Proof.Positive
public import Idealize.ShloMosaic.Lib.Pointwise

@[expose] public section

set_option maxRecDepth 16384

noncomputable section

namespace Cert.KernelIdeal.Hand

open Cert.KernelIdeal Cert.KernelIdeal.Gen Cert.Positive Idealize.ShloMosaic

/-- The kernel's sums for batch row `b`: the row's positive part times what the two layers make of `1`, plus the row's
    negative part times what they make of `-1`, sign included. -/
def rowSums (x : FVec Ideal S16x4096 .f32) (w1a : FVec Ideal S1x32 .f32) (w1b : FVec Ideal S32x32 .f32) (b : Fin 16)
    (k : Fin 32) : EReal :=
  (∑ l : Fin 4096, max (x (ix2 b l)) 0) * layer (fun i : Fin 32 => max (w1a (ix2 0 i)) 0) (fun i j => w1b (ix2 i j)) k
    + (∑ l : Fin 4096, x (ix2 b l) - ∑ l : Fin 4096, max (x (ix2 b l)) 0)
      * min (∑ i : Fin 32, min (w1a (ix2 0 i)) 0 * w1b (ix2 i k)) 0

/-- The kernel's one number for the batch: the sum over the rows of two layers on the row's sums. -/
theorem total_at (w1a : FVec Ideal S1x32 .f32) (w1b : FVec Ideal S32x32 .f32) (x : FVec Ideal S16x4096 .f32)
    (wr1a : FVec Ideal S32x32 .f32) (wr1b : FVec Ideal S32x1 .f32) :
    k0_pay2 (F := Ideal) w1a w1b x wr1a wr1b (ix1 0)
      = ∑ b : Fin 16, layer (layer (rowSums x w1a w1b b) fun i (j : Fin 32) => wr1a (ix2 i j))
          (fun i (j : Fin 1) => wr1b (ix2 i j)) 0 := by
  unfold layer rowSums layer
  pointwise [k0_pay2]

/-- The kernel's stored row: entry `k` is the rectified output weight of the first set, times the batch number, times
    what the second set's layers make of `1`, times the last weight. -/
theorem stored_at (s : FVec Ideal S1 .f32) (w2a : FVec Ideal S1x32 .f32) (w2b wr2a : FVec Ideal S32x32 .f32)
    (wr2b : FVec Ideal S32x1 .f32) (wo1 : FVec Ideal S1x1 .f32) (wo2 : FVec Ideal S1x8 .f32) (k : Fin 8) :
    k0_pay1 (F := Ideal) s w2a w2b wr2a wr2b wo1 wo2 (ix2 0 k)
      = max (wo1 (ix2 0 0)) 0 * s (ix1 0)
          * layer (layer (layer (fun i : Fin 32 => max (w2a (ix2 0 i)) 0) fun i (j : Fin 32) => w2b (ix2 i j))
              fun i (j : Fin 32) => wr2a (ix2 i j)) (fun i (j : Fin 1) => wr2b (ix2 i j)) 0
          * wo2 (ix2 0 k) := by
  unfold layer
  pointwise [k0_pay1]

end Cert.KernelIdeal.Hand

end
-- ==== Proof.ReferenceValue.lean ====
/- The reference's result, read entry by entry at extended-real values when every bias is zero. The composed term of its
   host operations is cut into the four stages of the problem: the first set's sums, the per-batch latent number, the
   second set's sum over the batch, and the output layers. -/
module

public import proofs.«01_k».proof.Proof.Gen.ReferenceIdeal
public import proofs.«01_k».proof.Proof.Positive
public import Idealize.ShloMosaic.Lib.Pointwise

@[expose] public section

set_option maxRecDepth 16384

noncomputable section

namespace Cert.ReferenceIdeal.Hand

open Cert.ReferenceIdeal Cert.ReferenceIdeal.Gen Cert.Positive Idealize.ShloMosaic

/-- Stage 1: two layers on every event, summed over a batch row's events. -/
def sums (a0 : FVec Ideal S16x4096 .f32) (a1 : FVec Ideal S1x32 .f32) (a2 : FVec Ideal S32 .f32) (a3 : FVec Ideal S32x32 .f32) (a4 : FVec Ideal S32 .f32) :
    FVec Ideal S16x32 .f32 :=
  Host.reduceAdd (maximumf (addf (Host.dotGeneral dot_S16x4096x32_S32x32_S16x4096x32_2_0_01_1_n_n none (maximumf
    (addf (Host.dotGeneral dot_S16x4096x1_S1x32_S16x4096x32_2_0_01_1_n_n none (broadcastInDim S16x4096x1 ![0, 1]
    bcast_S16x4096_S16x4096x1_0_1 a0) a1) (broadcastInDim S16x4096x32 ![0, 1, 2] bcast_S1x1x32_S16x4096x32_0_1_2
    (broadcastInDim S1x1x32 ![2] bcast_S32_S1x1x32_2 a2))) (broadcastInDim S16x4096x32 ![] bcast_S_S16x4096x32
    (constant S_ .f32 0x00000000#32))) a3) (broadcastInDim S16x4096x32 ![0, 1, 2] bcast_S1x1x32_S16x4096x32_0_1_2
    (broadcastInDim S1x1x32 ![2] bcast_S32_S1x1x32_2 a4))) (broadcastInDim S16x4096x32 ![] bcast_S_S16x4096x32
    (constant S_ .f32 0x00000000#32))) (constant S_ .f32 0x00000000#32) reducesTo_S16x4096x32_S16x32_d1 h_S_

/-- Stage 2: two layers on a batch row's sums, giving one number for the row. -/
def latent (s : FVec Ideal S16x32 .f32) (a5 : FVec Ideal S32x32 .f32) (a6 : FVec Ideal S32 .f32) (a7 : FVec Ideal S32x1 .f32) (a8 : FVec Ideal S1 .f32) :
    FVec Ideal S16x1 .f32 :=
  maximumf (addf (Host.dotGeneral dot_S16x32_S32x1_S16x1_1_0_0_1_n_n none (maximumf (addf (Host.dotGeneral
    dot_S16x32_S32x32_S16x32_1_0_0_1_n_n none s a5) (broadcastInDim S16x32 ![0, 1] bcast_S1x32_S16x32_0_1
    (broadcastInDim S1x32 ![1] bcast_S32_S1x32_1 a6))) (broadcastInDim S16x32 ![] bcast_S_S16x32 (constant S_ .f32
    0x00000000#32))) a7) (broadcastInDim S16x1 ![0, 1] bcast_S1x1_S16x1_0_1 (broadcastInDim S1x1 ![1]
    bcast_S1_S1x1_1 a8))) (broadcastInDim S16x1 ![] bcast_S_S16x1 (constant S_ .f32 0x00000000#32))

/-- Stage 3: the output layer of the first set, then two layers on its number, summed over the batch. -/
def groups (r : FVec Ideal S16x1 .f32) (a9 : FVec Ideal S1x1 .f32) (a10 : FVec Ideal S1 .f32) (a11 : FVec Ideal S1x32 .f32)
    (a12 : FVec Ideal S32 .f32) (a13 : FVec Ideal S32x32 .f32) (a14 : FVec Ideal S32 .f32) : FVec Ideal S32 .f32 :=
  Host.reduceAdd (maximumf (addf (Host.dotGeneral dot_S16x32_S32x32_S16x32_1_0_0_1_n_n none (maximumf (addf
    (Host.dotGeneral dot_S16x1_S1x32_S16x32_1_0_0_1_n_n none (maximumf (addf (Host.dotGeneral
    dot_S16x1_S1x1_S16x1_1_0_0_1_n_n none r a9) (broadcastInDim S16x1 ![0, 1] bcast_S1x1_S16x1_0_1 (broadcastInDim
    S1x1 ![1] bcast_S1_S1x1_1 a10))) (broadcastInDim S16x1 ![] bcast_S_S16x1 (constant S_ .f32 0x00000000#32))) a11)
    (broadcastInDim S16x32 ![0, 1] bcast_S1x32_S16x32_0_1 (broadcastInDim S1x32 ![1] bcast_S32_S1x32_1 a12)))
    (broadcastInDim S16x32 ![] bcast_S_S16x32 (constant S_ .f32 0x00000000#32))) a13) (broadcastInDim S16x32 ![0, 1]
    bcast_S1x32_S16x32_0_1 (broadcastInDim S1x32 ![1] bcast_S32_S1x32_1 a14))) (broadcastInDim S16x32 ![]
    bcast_S_S16x32 (constant S_ .f32 0x00000000#32))) (constant S_ .f32 0x00000000#32) reducesTo_S16x32_S32_d0 h_S_

/-- Stage 4: two layers on the sum over the batch, then the last linear layer. -/
def output (g : FVec Ideal S32 .f32) (a15 : FVec Ideal S32x32 .f32) (a16 : FVec Ideal S32 .f32) (a17 : FVec Ideal S32x1 .f32)
    (a18 : FVec Ideal S1 .f32) (a19 : FVec Ideal S1x8 .f32) (a20 : FVec Ideal S8 .f32) : FVec Ideal S1x1x8 .f32 :=
  broadcastInDim S1x1x8 ![1, 2] bcast_S1x8_S1x1x8_1_2 (addf (Host.dotGeneral dot_S1x1_S1x8_S1x8_1_0_0_1_n_n none
    (maximumf (addf (Host.dotGeneral dot_S1x32_S32x1_S1x1_1_0_0_1_n_n none (maximumf (addf (Host.dotGeneral
    dot_S1x32_S32x32_S1x32_1_0_0_1_n_n none (broadcastInDim S1x32 ![1] bcast_S32_S1x32_1 g) a15) (broadcastInDim
    S1x32 ![1] bcast_S32_S1x32_1 a16)) (broadcastInDim S1x32 ![] bcast_S_S1x32 (constant S_ .f32 0x00000000#32)))
    a17) (broadcastInDim S1x1 ![1] bcast_S1_S1x1_1 a18)) (broadcastInDim S1x1 ![] bcast_S_S1x1 (constant S_ .f32
    0x00000000#32))) a19) (broadcastInDim S1x8 ![1] bcast_S8_S1x8_1 a20))

/-- Stage 1 with zero biases: entry `(b, k)` is the sum, over the events of row `b`, of two layers without bias. -/
theorem sums_at (a0 : FVec Ideal S16x4096 .f32) (a1 : FVec Ideal S1x32 .f32) (a2 : FVec Ideal S32 .f32) (a3 : FVec Ideal S32x32 .f32) (a4 : FVec Ideal S32 .f32)
    (h2 : ∀ i, a2 i = 0) (h4 : ∀ i, a4 i = 0) (b : Fin 16) (k : Fin 32) :
    sums a0 a1 a2 a3 a4 (ix2 b k)
      = ∑ l : Fin 4096, layer (fun i : Fin 32 => max (a0 (ix2 b l) * a1 (ix2 0 i)) 0) (fun i j => a3 (ix2 i j)) k := by
  unfold layer
  pointwise [sums]
  simp only [h2, h4, add_zero, Fin.sum_univ_one, Fin.isValue]

/-- Stage 2 with zero biases: the row's number is two layers without bias on the row's sums. -/
theorem latent_at (s : FVec Ideal S16x32 .f32) (a5 : FVec Ideal S32x32 .f32) (a6 : FVec Ideal S32 .f32) (a7 : FVec Ideal S32x1 .f32) (a8 : FVec Ideal S1 .f32)
    (h6 : ∀ i, a6 i = 0) (h8 : ∀ i, a8 i = 0) (b : Fin 16) :
    latent s a5 a6 a7 a8 (ix2 b 0)
      = layer (layer (fun k : Fin 32 => s (ix2 b k)) fun i (j : Fin 32) => a5 (ix2 i j)) (fun i (j : Fin 1) => a7 (ix2 i j)) 0 := by
  unfold layer
  pointwise [latent]
  simp only [h6, h8, add_zero]

/-- Stage 3 with zero biases: entry `k` is the sum over the batch of two layers without bias on the row's output. -/
theorem groups_at (r : FVec Ideal S16x1 .f32) (a9 : FVec Ideal S1x1 .f32) (a10 : FVec Ideal S1 .f32) (a11 : FVec Ideal S1x32 .f32)
    (a12 : FVec Ideal S32 .f32) (a13 : FVec Ideal S32x32 .f32) (a14 : FVec Ideal S32 .f32)
    (h10 : ∀ i, a10 i = 0) (h12 : ∀ i, a12 i = 0) (h14 : ∀ i, a14 i = 0) (k : Fin 32) :
    groups r a9 a10 a11 a12 a13 a14 (ix1 k)
      = ∑ b : Fin 16, layer (fun i : Fin 32 => max (max (r (ix2 b 0) * a9 (ix2 0 0)) 0 * a11 (ix2 0 i)) 0)
          (fun i j => a13 (ix2 i j)) k := by
  unfold layer
  pointwise [groups]
  simp only [h10, h12, h14, add_zero, Fin.sum_univ_one, Fin.isValue]

/-- Stage 4 with zero biases: the result's entry `k` is two layers without bias on the sum, times the last weight. -/
theorem output_at (g : FVec Ideal S32 .f32) (a15 : FVec Ideal S32x32 .f32) (a16 : FVec Ideal S32 .f32) (a17 : FVec Ideal S32x1 .f32)
    (a18 : FVec Ideal S1 .f32) (a19 : FVec Ideal S1x8 .f32) (a20 : FVec Ideal S8 .f32)
    (h16 : ∀ i, a16 i = 0) (h18 : ∀ i, a18 i = 0) (h20 : ∀ i, a20 i = 0) (k : Fin 8) :
    output g a15 a16 a17 a18 a19 a20 (ix3 0 0 k)
      = layer (layer (fun i : Fin 32 => g (ix1 i)) fun i (j : Fin 32) => a15 (ix2 i j)) (fun i (j : Fin 1) => a17 (ix2 i j)) 0
        * a19 (ix2 0 k) := by
  unfold layer
  pointwise [output]
  simp only [h16, h18, h20, add_zero, Fin.sum_univ_one, Fin.isValue]

end Cert.ReferenceIdeal.Hand

end
-- ==== Proof.Equation.lean ====
/- The two programs' results are the same array wherever the precondition holds: the first set's sums agree, the second
   set's sum over the batch is one number times a fixed vector, and the output layers carry that number through. -/
module

public import proofs.«01_k».proof.Proof.Positive
public import proofs.«01_k».proof.Proof.Precondition
public import proofs.«01_k».proof.Proof.KernelValue
public import proofs.«01_k».proof.Proof.ReferenceValue

@[expose] public section

set_option maxRecDepth 16384

noncomputable section

namespace Cert.Equation

open Cert.ReferenceIdeal Cert.ReferenceIdeal.Hand Cert.KernelIdeal.Hand Cert.KernelIdeal.Gen Cert.Positive
open Idealize.ShloMosaic

/-- Where events and weights are real numbers, the sum of two layers over a row's events is the kernel's combination of
    the row's positive and negative parts. -/
theorem sums_eq (a0 : FVec Ideal S16x4096 .f32) (a1 : FVec Ideal S1x32 .f32) (a3 : FVec Ideal S32x32 .f32)
    (r0 : ∀ i, ∃ r : ℝ, a0 i = r) (r1 : ∀ i, ∃ r : ℝ, a1 i = r) (r3 : ∀ i, ∃ r : ℝ, a3 i = r)
    (b : Fin 16) (k : Fin 32) :
    ∑ l : Fin 4096, layer (fun i : Fin 32 => max (a0 (ix2 b l) * a1 (ix2 0 i)) 0) (fun i j => a3 (ix2 i j)) k
      = rowSums a0 a1 a3 b k := by
  choose x0 e0 using r0
  choose x1 e1 using r1
  choose x3 e3 using r3
  unfold rowSums
  simp only [e0, e1, e3, ← EReal.coe_mul, ← EReal.coe_zero, ← coe_max, ← coe_min, layer_real, ← coe_sum, ← EReal.coe_sub,
    ← EReal.coe_add]
  exact congrArg _ (sum_two_layers (fun l => x0 (ix2 b l)) (fun i => x1 (ix2 0 i)) fun i => x3 (ix2 i k))

/-- Where events and weights are real numbers, the kernel's sums of a row are real numbers. -/
theorem rowSums_real (a0 : FVec Ideal S16x4096 .f32) (a1 : FVec Ideal S1x32 .f32) (a3 : FVec Ideal S32x32 .f32)
    (r0 : ∀ i, ∃ r : ℝ, a0 i = r) (r1 : ∀ i, ∃ r : ℝ, a1 i = r) (r3 : ∀ i, ∃ r : ℝ, a3 i = r)
    (b : Fin 16) (k : Fin 32) : ∃ r : ℝ, rowSums a0 a1 a3 b k = r := by
  choose x0 e0 using r0
  choose x1 e1 using r1
  choose x3 e3 using r3
  unfold rowSums
  simp only [e0, e1, e3, ← EReal.coe_mul, ← EReal.coe_zero, ← coe_max, ← coe_min, layer_real, ← coe_sum, ← EReal.coe_sub,
    ← EReal.coe_add]
  exact ⟨_, rfl⟩

/-- The two layers on a row of real sums give a real number, at least zero. -/
theorem latent_real (s : Fin 32 → EReal) (a5 : FVec Ideal S32x32 .f32) (a7 : FVec Ideal S32x1 .f32)
    (rs : ∀ k, ∃ r : ℝ, s k = r) (r5 : ∀ i, ∃ r : ℝ, a5 i = r) (r7 : ∀ i, ∃ r : ℝ, a7 i = r) :
    ∃ r : ℝ, 0 ≤ r ∧ layer (layer s fun i (j : Fin 32) => a5 (ix2 i j)) (fun i (j : Fin 1) => a7 (ix2 i j)) 0 = r := by
  choose x e using rs
  choose x5 e5 using r5
  choose x7 e7 using r7
  have es : s = fun k => (x k : EReal) := funext e
  have el : layer (fun k => (x k : EReal)) (fun i (j : Fin 32) => (x5 (ix2 i j) : EReal))
      = fun k => ((max (∑ j, x j * x5 (ix2 j k)) 0 : ℝ) : EReal) :=
    funext fun k => layer_real x (fun i j => x5 (ix2 i j)) k
  simp only [es, e5, e7, el]
  exact ⟨_, le_max_right _ _, layer_real (fun k => max (∑ j, x j * x5 (ix2 j k)) 0) (fun i (j : Fin 1) => x7 (ix2 i j)) 0⟩

/-- The second set with one nonnegative real number `r b` per row: its sum over the batch is the rectified output weight
    times the sum of the numbers, a nonnegative real, times what the set's layers make of `1`. -/
theorem groups_eq (r : Fin 16 → ℝ) (hr : ∀ b, 0 ≤ r b) (w : ℝ) (v : Fin 32 → EReal) (m : Fin 32 → Fin 32 → EReal)
    (k : Fin 32) :
    ∑ b, layer (fun i => max (max ((r b : EReal) * (w : EReal)) 0 * v i) 0) m k
      = ((max w 0 * ∑ b, r b : ℝ) : EReal) * layer (fun i => max (v i) 0) m k := by
  have hb : ∀ b, 0 ≤ max w 0 * r b := fun b => mul_nonneg (le_max_right _ _) (hr b)
  have e : ∀ b, max ((r b : EReal) * (w : EReal)) 0 = ((max w 0 * r b : ℝ) : EReal) := fun b => by
    rw [mul_max_real _ (hr b), ← EReal.coe_zero, ← coe_max, ← EReal.coe_mul, mul_comm]
  simp only [e, mul_max_real _ (hb _), layer_smul _ _ (hb _)]
  rw [sum_real_mul _ _ hb, Finset.mul_sum]

/-- The kernel's result is the reference's, over the same arguments, under the precondition. -/
theorem result_eq (a0 : FVec Ideal S16x4096 .f32) (a1 : FVec Ideal S1x32 .f32) (a2 : FVec Ideal S32 .f32) (a3 : FVec Ideal S32x32 .f32)
    (a4 : FVec Ideal S32 .f32) (a5 : FVec Ideal S32x32 .f32) (a6 : FVec Ideal S32 .f32) (a7 : FVec Ideal S32x1 .f32)
    (a8 : FVec Ideal S1 .f32) (a9 : FVec Ideal S1x1 .f32) (a10 : FVec Ideal S1 .f32) (a11 : FVec Ideal S1x32 .f32)
    (a12 : FVec Ideal S32 .f32) (a13 : FVec Ideal S32x32 .f32) (a14 : FVec Ideal S32 .f32) (a15 : FVec Ideal S32x32 .f32)
    (a16 : FVec Ideal S32 .f32) (a17 : FVec Ideal S32x1 .f32) (a18 : FVec Ideal S1 .f32) (a19 : FVec Ideal S1x8 .f32) (a20 : FVec Ideal S8 .f32)
    (h : Cert.Pre_zero_biases_finite_events.fn (F := Ideal) a0 a1 a2 a3 a4 a5 a6 a7 a8 a9 a10 a11 a12 a13 a14 a15 a16 a17 a18 a19 a20
      = fun _ => 1#1) :
    shapeCast S1x1x8 (k0_pay1 (F := Ideal) (k0_pay2 (F := Ideal) a1 a3 a0 a5 a7) a11 a13 a15 a17 a9 a19)
        Cert.KernelIdeal.Gen.shapeCasts_S1x8_S1x1x8
      = output (groups (latent (sums a0 a1 a2 a3 a4) a5 a6 a7 a8) a9 a10 a11 a12 a13 a14) a15 a16 a17 a18 a19 a20 := by
  have H := Cert.Pre_zero_biases_finite_events.Hand.meaning a0 a1 a2 a3 a4 a5 a6 a7 a8 a9 a10 a11 a12 a13 a14 a15 a16 a17 a18 a19 a20 h
  have hs : ∀ b, (fun k => sums a0 a1 a2 a3 a4 (ix2 b k)) = rowSums a0 a1 a3 b := fun b => funext fun k => by
    rw [sums_at _ _ _ _ _ H.zero2 H.zero4, sums_eq a0 a1 a3 H.real0 H.real1 H.real3]
  choose r hr er using fun b => latent_real (rowSums a0 a1 a3 b) a5 a7
    (rowSums_real a0 a1 a3 H.real0 H.real1 H.real3 b) H.real5 H.real7
  have hl : ∀ b, latent (sums a0 a1 a2 a3 a4) a5 a6 a7 a8 (ix2 b 0) = r b := fun b => by
    rw [latent_at _ _ _ _ _ H.zero6 H.zero8, hs, er]
  obtain ⟨w, ew⟩ := H.real9 (ix2 0 0)
  have hA : 0 ≤ max w 0 * ∑ b, r b := mul_nonneg (le_max_right _ _) (Finset.sum_nonneg fun b _ => hr b)
  have hg : ∀ k, groups (latent (sums a0 a1 a2 a3 a4) a5 a6 a7 a8) a9 a10 a11 a12 a13 a14 (ix1 k)
      = ((max w 0 * ∑ b, r b : ℝ) : EReal)
        * layer (fun i : Fin 32 => max (a11 (ix2 0 i)) 0) (fun i (j : Fin 32) => a13 (ix2 i j)) k := fun k => by
    rw [groups_at _ _ _ _ _ _ _ H.zero10 H.zero12 H.zero14]
    simp only [hl, ew]
    exact groups_eq r hr w _ _ k
  have ht : k0_pay2 (F := Ideal) a1 a3 a0 a5 a7 (ix1 0) = ((∑ b, r b : ℝ) : EReal) := by
    rw [total_at, coe_sum]
    exact Finset.sum_congr rfl fun b _ => er b
  funext j
  idx_vars j
  obtain rfl : j0 = 0 := Subsingleton.elim _ _
  obtain rfl : j1 = 0 := Subsingleton.elim _ _
  rw [output_at _ _ _ _ _ _ _ H.zero16 H.zero18 H.zero20]
  simp only [hg]
  have e1 : layer (fun i => ((max w 0 * ∑ b, r b : ℝ) : EReal)
        * layer (fun i : Fin 32 => max (a11 (ix2 0 i)) 0) (fun i (j : Fin 32) => a13 (ix2 i j)) i)
        (fun i (j : Fin 32) => a15 (ix2 i j))
      = fun k => ((max w 0 * ∑ b, r b : ℝ) : EReal)
        * layer (layer (fun i : Fin 32 => max (a11 (ix2 0 i)) 0) fun i (j : Fin 32) => a13 (ix2 i j))
          (fun i (j : Fin 32) => a15 (ix2 i j)) k := funext fun k => layer_smul _ _ hA k
  rw [e1, layer_smul _ _ hA, EReal.coe_mul, coe_max, EReal.coe_zero]
  have e2 := stored_at (k0_pay2 (F := Ideal) a1 a3 a0 a5 a7) a11 a13 a15 a17 a9 a19 j2
  rw [ht, ew] at e2
  rw [← e2]
  pointwise

end Cert.Equation

end
-- ==== Proof.KernelRun.lean ====
/- The kernel's run at any float values: its one block per operand is the whole array, so the array the launch writes is
   the stored row over the arguments, and the result is that row reshaped by the host. -/
module

public import proofs.«01_k».proof.Proof.Gen.KernelIdeal.Frame
public import Idealize.ShloMosaic.Lib.Pipeline.ValueKit
public import Idealize.ShloMosaic.Lib.StableHlo.Run

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- A block whose index is zero on every axis begins at the array's first entry. -/
theorem start_zero {k n x : ℕ} (h : k = 0) : k * n + x = x := by
  rw [h, Nat.zero_mul, Nat.zero_add]

/-- The block of window 0 is the whole of argument 0. -/
theorem iblk_0 (c : Dev nD) (t : Fin cfg0.N) : iblk m c 0 t = m ((c : Thread nD τ).loc main_arg0) := by
  funext j
  blk_simp [iblk]
  exact congrArg (m ((c : Thread nD τ).loc main_arg0)) (funext fun i => Fin.ext (by
    blk_simp
    exact start_zero ((by decide +kernel : ∀ (u : Fin cfg0.N) (i : Fin 2), win0_0.index u i = 0) t i)))

/-- The block of window 1 is the whole of argument 1. -/
theorem iblk_1 (c : Dev nD) (t : Fin cfg0.N) : iblk m c 1 t = m ((c : Thread nD τ).loc main_arg1) := by
  funext j
  blk_simp [iblk]
  exact congrArg (m ((c : Thread nD τ).loc main_arg1)) (funext fun i => Fin.ext (by
    blk_simp
    exact start_zero ((by decide +kernel : ∀ (u : Fin cfg0.N) (i : Fin 2), win0_1.index u i = 0) t i)))

/-- The block of window 2 is the whole of argument 3. -/
theorem iblk_2 (c : Dev nD) (t : Fin cfg0.N) : iblk m c 2 t = m ((c : Thread nD τ).loc main_arg3) := by
  funext j
  blk_simp [iblk]
  exact congrArg (m ((c : Thread nD τ).loc main_arg3)) (funext fun i => Fin.ext (by
    blk_simp
    exact start_zero ((by decide +kernel : ∀ (u : Fin cfg0.N) (i : Fin 2), win0_2.index u i = 0) t i)))

/-- The block of window 3 is the whole of argument 5. -/
theorem iblk_3 (c : Dev nD) (t : Fin cfg0.N) : iblk m c 3 t = m ((c : Thread nD τ).loc main_arg5) := by
  funext j
  blk_simp [iblk]
  exact congrArg (m ((c : Thread nD τ).loc main_arg5)) (funext fun i => Fin.ext (by
    blk_simp
    exact start_zero ((by decide +kernel : ∀ (u : Fin cfg0.N) (i : Fin 2), win0_3.index u i = 0) t i)))

/-- The block of window 4 is the whole of argument 7. -/
theorem iblk_4 (c : Dev nD) (t : Fin cfg0.N) : iblk m c 4 t = m ((c : Thread nD τ).loc main_arg7) := by
  funext j
  blk_simp [iblk]
  exact congrArg (m ((c : Thread nD τ).loc main_arg7)) (funext fun i => Fin.ext (by
    blk_simp
    exact start_zero ((by decide +kernel : ∀ (u : Fin cfg0.N) (i : Fin 2), win0_4.index u i = 0) t i)))

/-- The block of window 5 is the whole of argument 9. -/
theorem iblk_5 (c : Dev nD) (t : Fin cfg0.N) : iblk m c 5 t = m ((c : Thread nD τ).loc main_arg9) := by
  funext j
  blk_simp [iblk]
  exact congrArg (m ((c : Thread nD τ).loc main_arg9)) (funext fun i => Fin.ext (by
    blk_simp
    exact start_zero ((by decide +kernel : ∀ (u : Fin cfg0.N) (i : Fin 2), win0_5.index u i = 0) t i)))

/-- The block of window 6 is the whole of argument 11. -/
theorem iblk_6 (c : Dev nD) (t : Fin cfg0.N) : iblk m c 6 t = m ((c : Thread nD τ).loc main_arg11) := by
  funext j
  blk_simp [iblk]
  exact congrArg (m ((c : Thread nD τ).loc main_arg11)) (funext fun i => Fin.ext (by
    blk_simp
    exact start_zero ((by decide +kernel : ∀ (u : Fin cfg0.N) (i : Fin 2), win0_6.index u i = 0) t i)))

/-- The block of window 7 is the whole of argument 13. -/
theorem iblk_7 (c : Dev nD) (t : Fin cfg0.N) : iblk m c 7 t = m ((c : Thread nD τ).loc main_arg13) := by
  funext j
  blk_simp [iblk]
  exact congrArg (m ((c : Thread nD τ).loc main_arg13)) (funext fun i => Fin.ext (by
    blk_simp
    exact start_zero ((by decide +kernel : ∀ (u : Fin cfg0.N) (i : Fin 2), win0_7.index u i = 0) t i)))

/-- The block of window 8 is the whole of argument 15. -/
theorem iblk_8 (c : Dev nD) (t : Fin cfg0.N) : iblk m c 8 t = m ((c : Thread nD τ).loc main_arg15) := by
  funext j
  blk_simp [iblk]
  exact congrArg (m ((c : Thread nD τ).loc main_arg15)) (funext fun i => Fin.ext (by
    blk_simp
    exact start_zero ((by decide +kernel : ∀ (u : Fin cfg0.N) (i : Fin 2), win0_8.index u i = 0) t i)))

/-- The block of window 9 is the whole of argument 17. -/
theorem iblk_9 (c : Dev nD) (t : Fin cfg0.N) : iblk m c 9 t = m ((c : Thread nD τ).loc main_arg17) := by
  funext j
  blk_simp [iblk]
  exact congrArg (m ((c : Thread nD τ).loc main_arg17)) (funext fun i => Fin.ext (by
    blk_simp
    exact start_zero ((by decide +kernel : ∀ (u : Fin cfg0.N) (i : Fin 2), win0_9.index u i = 0) t i)))

/-- The block of window 10 is the whole of argument 19. -/
theorem iblk_10 (c : Dev nD) (t : Fin cfg0.N) : iblk m c 10 t = m ((c : Thread nD τ).loc main_arg19) := by
  funext j
  blk_simp [iblk]
  exact congrArg (m ((c : Thread nD τ).loc main_arg19)) (funext fun i => Fin.ext (by
    blk_simp
    exact start_zero ((by decide +kernel : ∀ (u : Fin cfg0.N) (i : Fin 2), win0_10.index u i = 0) t i)))

/-- The row the launch writes, over the launch's argument arrays. -/
def stored (c : Dev nD) : FVec F S1x8 .f32 :=
  k0_pay1 (k0_pay2 (m ((c : Thread nD τ).loc main_arg1)) (m ((c : Thread nD τ).loc main_arg3))
      (m ((c : Thread nD τ).loc main_arg0)) (m ((c : Thread nD τ).loc main_arg5)) (m ((c : Thread nD τ).loc main_arg7)))
    (m ((c : Thread nD τ).loc main_arg11)) (m ((c : Thread nD τ).loc main_arg13)) (m ((c : Thread nD τ).loc main_arg15))
    (m ((c : Thread nD τ).loc main_arg17)) (m ((c : Thread nD τ).loc main_arg9)) (m ((c : Thread nD τ).loc main_arg19))

/-- After the launch the array it writes holds the stored row. -/
theorem array_eq (c : Dev nD) : (dats m 0 c).arrAt 11 (cfgs 0).N = stored m c := by
  refine (dats m 0 c).arrAt_eq_of_covers 11 _ (by decide +kernel) fun t hf y => ?_
  blk_simp
  rw [after0_11]
  frame_out
  rw [iblk_0, iblk_1, iblk_2, iblk_3, iblk_4, iblk_5, iblk_6, iblk_7, iblk_8, iblk_9, iblk_10]
  exact congrArg (stored m c) (funext fun i => Fin.ext (by
    blk_simp
    exact (start_zero ((by decide +kernel : ∀ (u : Fin cfg0.N) (i : Fin 2), win0_11.index u i = 0) t i)).symm))

/-- The host's reshape after the launch leaves the stored row in the result's shape. -/
theorem result_eq (c : Dev nD) : Pipeline.afterTail₀ cfgs (dats m) 0 (V0 m) [hostOps1] c main_v1
    = shapeCast S1x1x8 (stored m c) shapeCasts_S1x8_S1x1x8 := by
  unfold Pipeline.afterTail₀
  show StableHlo.after hostOps1 _ _ = _
  after_results
  have e := Pipeline.withArrays_arr (cfgs 0).spec launch0.win.arr_inj c (V0 m c)
    (fun w => (dats m 0 c).arrAt w (cfgs 0).N) 11
  have e' := e.trans (array_eq m c)
  funext i
  exact congrFun (congrArg (fun v : FVec F S1x8 .f32 => shapeCast S1x1x8 v shapeCasts_S1x8_S1x1x8) e') i

/-- Every run of the kernel ends with the stored row, reshaped, as its result and with its arguments unchanged. -/
theorem run_value (ρ : Dev nD → PrngReg) : θ_run defs (onTc (τ := τ) (main (F := F))) ⟨m, fun _ => 0, ρ⟩ (fun r => ∀ c : Dev nD,
      r.2.mem ((c.tc : Thread nD τ).loc main_v1) = shapeCast S1x1x8 (stored m c) shapeCasts_S1x8_S1x1x8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run _ _ _).mono
    (fun _ h c => ⟨((h.1 c).2 main_v1 (Pipeline.mem_restRefs_of main_v1 (by decide) (by decide))).trans (result_eq m c), h.2 c⟩)
    (θ_run_and (run_main m ρ) (unchanged m ρ))

end Cert.KernelIdeal.Hand

end
-- ==== Proof.ReferenceRun.lean ====
/- The reference's run: its result is the four stages of the computation, one after another, over its arguments. -/
module

public import proofs.«01_k».proof.Proof.Gen.ReferenceIdeal.Run
public import proofs.«01_k».proof.Proof.ReferenceValue
public import Idealize.ShloMosaic.Lib.Quiescent

@[expose] public section

set_option maxRecDepth 16384

noncomputable section

namespace Cert.ReferenceIdeal.Hand

open Cert.ReferenceIdeal Cert.ReferenceIdeal.Gen Idealize.ShloMosaic Idealize.ShloMosaic.TcCoe Idealize.SL.Sem

/-- Every run of the reference at the ideal values ends with the output layers of the second set's sum of the first
    set's numbers as its result, and with its arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v50)
        = output (groups (latent (sums (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
            (m ((c.tc : Thread nD τ).loc main_arg5)) (m ((c.tc : Thread nD τ).loc main_arg6)) (m ((c.tc : Thread nD τ).loc main_arg7)) (m ((c.tc : Thread nD τ).loc main_arg8)))
            (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)))
            (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Value.run m ρ

/-- Every run of the reference at the ideal values leaves its arguments unchanged and every counter at zero: the program
    declares no semaphore. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  (θ_run _ _ _).mono (fun r h => ⟨fun c => (h c).2, sem_eq_zero_of_no_sems (by decide) r.2⟩) (run_value m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_zero_biases_finite_events
public import proofs.«01_k».proof.Proof.Equation
public import proofs.«01_k».proof.Proof.KernelRun
public import proofs.«01_k».proof.Proof.ReferenceRun
public import Idealize.ShloMosaic.Adequacy
public import Idealize.ShloMosaic.Init

@[expose] public section

noncomputable section

namespace Cert.Proof

open Idealize.ShloMosaic Idealize.SL.Sem Cert.Kernel

/-- The kernel at the ideal values and the reference compute the same result under the precondition. -/
theorem algebraic : Cert.algebraic_KernelIdeal_ReferenceIdeal_pre_zero_biases_finite_events := by
  intro m g m' g' hpre hagree
  refine ⟨fun c => _, Cert.KernelIdeal.Hand.run_value m g, ?_⟩
  refine (θ_run _ _ _).mono (fun r h c => ⟨(h c).1.trans ?_, (h c).2⟩) (Cert.ReferenceIdeal.Hand.run_value m' g')
  obtain ⟨e0, e1, e2, e3, e4, e5, e6, e7, e8, e9, e10, e11, e12, e13, e14, e15, e16, e17, e18, e19, e20⟩ := hagree c
  rw [e0, e1, e2, e3, e4, e5, e6, e7, e8, e9, e10, e11, e12, e13, e14, e15, e16, e17, e18, e19, e20]
  exact (Cert.Equation.result_eq _ _ _ _ _ _ _ _ _ _ _ _ _ _ _ _ _ _ _ _ _ (hpre c)).symm

/-- Every claim of the certificate. -/
theorem claim : Cert.Claim := ⟨Cert.Kernel.Gen.facts, Cert.KernelIdeal.Gen.facts, Cert.ReferenceIdeal.Gen.facts, Cert.Pre_zero_biases_finite_events.Gen.facts,
  fun m g _ => Cert.Kernel.Gen.frame m g,
  fun m g _ => Cert.KernelIdeal.Gen.frame m g,
  fun m g _ => Cert.KernelIdeal.Gen.frame m g,
  fun m g _ => Cert.ReferenceIdeal.Hand.frame m g,
  fun m g _ => Cert.ReferenceIdeal.Hand.frame m g,
  trivial,
  algebraic⟩

end Cert.Proof

end
